-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x200x2 : Shape := ⟨3, ![16384, 200, 2]⟩
abbrev S12800x512 : Shape := ⟨2, ![12800, 512]⟩
abbrev S12800x256 : Shape := ⟨2, ![12800, 256]⟩
abbrev S800x512 : Shape := ⟨2, ![800, 512]⟩
abbrev S800x256 : Shape := ⟨2, ![800, 256]⟩
abbrev S512x256 : Shape := ⟨2, ![512, 256]⟩
abbrev S16384x200x1 : Shape := ⟨3, ![16384, 200, 1]⟩

abbrev nBuf : Space → Nat
  | .hbm => 4
  | .vmem => 4
  | .smem => 0
  | _ => 0

abbrev bufTy : (tb : Table) → Fin (tcTables nBuf tb) → BufTy
  | .hbm, ⟨0, _⟩ => ⟨S16384x200x2, .f32⟩
  | .hbm, ⟨1, _⟩ => ⟨S12800x512, .f32⟩
  | .hbm, ⟨2, _⟩ => ⟨S12800x256, .i32⟩
  | .hbm, ⟨3, _⟩ => ⟨S16384x200x1, .i32⟩
  | .local _ .vmem, ⟨0, _⟩ => ⟨S800x512, .f32⟩
  | .local _ .vmem, ⟨1, _⟩ => ⟨S800x512, .f32⟩
  | .local _ .vmem, ⟨2, _⟩ => ⟨S800x256, .i32⟩
  | .local _ .vmem, ⟨3, _⟩ => ⟨S800x256, .i32⟩
  | _, _ => ⟨S16384x200x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16384x200x2 : Shape := ⟨3, ![16384, 200, 2]⟩
abbrev S128 : Shape := ⟨1, ![128]⟩
abbrev S_ : Shape := ⟨0, ![]⟩
abbrev S32 : Shape := ⟨1, ![32]⟩
abbrev S16384x200x1 : Shape := ⟨3, ![16384, 200, 1]⟩
abbrev S16384x200 : Shape := ⟨2, ![16384, 200]⟩
abbrev S1x1x128 : Shape := ⟨3, ![1, 1, 128]⟩
abbrev S16384x200x128 : Shape := ⟨3, ![16384, 200, 128]⟩
abbrev S1x1x32 : Shape := ⟨3, ![1, 1, 32]⟩
abbrev S16384x200x32 : Shape := ⟨3, ![16384, 200, 32]⟩

abbrev nBuf : Space → Nat
  | .hbm => 62
  | .vmem => 0
  | .smem => 0
  | _ => 0

abbrev bufTy : (tb : Table) → Fin (tcTables nBuf tb) → BufTy
  | .hbm, ⟨0, _⟩ => ⟨S16384x200x2, .f32⟩
  | .hbm, ⟨1, _⟩ => ⟨S128, .f32⟩
  | .hbm, ⟨2, _⟩ => ⟨S_, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S16384x200x1, .f32⟩
  | .hbm, ⟨16, _⟩ => ⟨S16384x200, .f32⟩
  | .hbm, ⟨17, _⟩ => ⟨S16384x200x1, .f32⟩
  | .hbm, ⟨18, _⟩ => ⟨S16384x200, .f32⟩
  | .hbm, ⟨19, _⟩ => ⟨S16384x200x1, .f32⟩
  | .hbm, ⟨20, _⟩ => ⟨S1x1x128, .f32⟩
  | .hbm, ⟨21, _⟩ => ⟨S16384x200x128, .f32⟩
  | .hbm, ⟨22, _⟩ => ⟨S16384x200x128, .f32⟩
  | .hbm, ⟨23, _⟩ => ⟨S16384x200x128, .i1⟩
  | .hbm, ⟨24, _⟩ => ⟨S16384x200x128, .i32⟩
  | .hbm, ⟨25, _⟩ => ⟨S_, .i32⟩
  | .hbm, ⟨26, _⟩ => ⟨S16384x200, .i32⟩
  | .hbm, ⟨27, _⟩ => ⟨S16384x200x1, .f32⟩
  | .hbm, ⟨28, _⟩ => ⟨S1x1x32, .f32⟩
  | .hbm, ⟨29, _⟩ => ⟨S16384x200x32, .f32⟩
  | .hbm, ⟨30, _⟩ => ⟨S16384x200x32, .f32⟩
  | .hbm, ⟨31, _⟩ => ⟨S16384x200x32, .i1⟩
  | .hbm, ⟨32, _⟩ => ⟨S16384x200x32, .i32⟩
  | .hbm, ⟨33, _⟩ => ⟨S_, .i32⟩
  | .hbm, ⟨34, _⟩ => ⟨S16384x200, .i32⟩
  | .hbm, ⟨35, _⟩ => ⟨S_, .i32⟩
  | .hbm, ⟨36, _⟩ => ⟨S16384x200, .i32⟩
  | .hbm, ⟨37, _⟩ => ⟨S16384x200, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S16384x200, .i32⟩
  | .hbm, ⟨42, _⟩ => ⟨S16384x200, .i32⟩
  | .hbm, ⟨43, _⟩ => ⟨S_, .i32⟩
  | .hbm, ⟨44, _⟩ => ⟨S16384x200, .i32⟩
  | .hbm, ⟨45, _⟩ => ⟨S16384x200, .i32⟩
  | .hbm, ⟨46, _⟩ => ⟨S_, .i32⟩
  | .hbm, ⟨47, _⟩ => ⟨S16384x200, .i32⟩
  | .hbm, ⟨48, _⟩ => ⟨S16384x200, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S16384x200, .i32⟩
  | .hbm, ⟨53, _⟩ => ⟨S16384x200, .i32⟩
  | .hbm, ⟨54, _⟩ => ⟨S_, .i32⟩
  | .hbm, ⟨55, _⟩ => ⟨S16384x200, .i32⟩
  | .hbm, ⟨56, _⟩ => ⟨S16384x200, .i32⟩
  | .hbm, ⟨57, _⟩ => ⟨S_, .i32⟩
  | .hbm, ⟨58, _⟩ => ⟨S16384x200, .i32⟩
  | .hbm, ⟨59, _⟩ => ⟨S16384x200, .i32⟩
  | .hbm, ⟨60, _⟩ => ⟨S16384x200, .i32⟩
  | .hbm, ⟨61, _⟩ => ⟨S16384x200x1, .i32⟩
  | _, _ => ⟨S16384x200x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_3 : Ref sig .tc := ⟨.hbm, 33, rfl⟩
abbrev main_v27 : Ref sig .tc := ⟨.hbm, 34, rfl⟩
abbrev main_c_4 : Ref sig .tc := ⟨.hbm, 35, rfl⟩
abbrev main_v28 : Ref sig .tc := ⟨.hbm, 36, rfl⟩
abbrev main_v29 : Ref sig .tc := ⟨.hbm, 37, rfl⟩
abbrev main_c_5 : Ref sig .tc := ⟨.hbm, 38, rfl⟩
abbrev main_c_6 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_c_9 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v33 : Ref sig .tc := ⟨.hbm, 56, rfl⟩
abbrev main_c_10 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]
-- ==== Proof.Cells.lean ====
/-
  The arithmetic of the two grids, free of any program. A coordinate is placed in one of `n` cells of width
  1/16 whose lower edges are `lo/16, (lo+1)/16, …, (lo+n-1)/16`; a value below the first edge goes to the first
  cell and a value above the last to the last. The kernel finds the cell by rounding down and clipping, the
  reference by counting the edges not above the value. `clip_floor_eq` says the two agree at every extended
  real; the rest are the 32-bit words the two programs make of the cell numbers, and the float constants.
-/
module

public import Idealize.ShloMosaic.PureOps.Ideal
public import Idealize.ShloMosaic.PureOps.Ideal.Laws
public import Idealize.ShloMosaic.Lib.IndicatorCount
public import Idealize.ShloMosaic.Lib.Pointwise.Index

@[expose] public section

noncomputable section

namespace Cert.Cells

open Idealize.ShloMosaic

/-- The number of the `n` edges `(lo + k) / 16`, `k < n`, that are not above `x`. -/
def edges (lo : ℤ) (n : ℕ) (x : EReal) : ℕ :=
  (Finset.univ.filter fun k : Fin n => ((((lo + (k : ℕ) : ℤ) : ℝ) / 16 : ℝ) : EReal) ≤ x).card

/-- The cell of `x`: one less than the number of edges not above it, and 0 where there is none. -/
def cell (lo : ℤ) (n : ℕ) (x : EReal) : ℕ := edges lo n x - 1

/-- No more edges are counted than there are. -/
theorem edges_le (lo : ℤ) (n : ℕ) (x : EReal) : edges lo n x ≤ n :=
  (Finset.card_filter_le _ _).trans (by simp)

/-- A cell number is below the number of cells. -/
theorem cell_lt (lo : ℤ) (n : ℕ) (x : EReal) (hn : 0 < n) : cell lo n x < n := by
  have := edges_le lo n x
  unfold cell; omega

/-- Below every edge nothing is counted. -/
theorem edges_bot (lo : ℤ) (n : ℕ) : edges lo n ⊥ = 0 := by
  unfold edges
  rw [Finset.card_eq_zero, Finset.filter_eq_empty_iff]
  intro k _ h
  exact EReal.coe_ne_bot _ (le_bot_iff.mp h)

/-- Above every edge all are counted. -/
theorem edges_top (lo : ℤ) (n : ℕ) : edges lo n ⊤ = n := by
  unfold edges
  simp

/-- The edges not above a real `r` are the first `⌊16 r⌋ + 1 - lo` of them, as far as there are so many. -/
theorem edges_coe (lo : ℤ) (n : ℕ) (r : ℝ) : edges lo n (r : EReal) = min n (⌊r * 16⌋ + 1 - lo).toNat := by
  unfold edges
  have h : ∀ k : Fin n, (((((lo + (k : ℕ) : ℤ) : ℝ) / 16 : ℝ) : EReal) ≤ (r : EReal)) ↔ (k : ℕ) < (⌊r * 16⌋ + 1 - lo).toNat := by
    intro k
    rw [EReal.coe_le_coe_iff, div_le_iff₀ (by norm_num), ← Int.le_floor]
    omega
  simp only [h]
  generalize (⌊r * 16⌋ + 1 - lo).toNat = t
  exact Fin.card_filter_val_lt

/-- Rounding `16 x` down and clipping it to `lo … lo + n - 1` gives `lo` plus the cell of `x`, at every extended real. -/
theorem clip_floor_eq (lo : ℤ) (n : ℕ) (hn : 0 < n) (x : EReal) :
    min (((lo + n - 1 : ℤ) : ℝ) : EReal) (max ((lo : ℝ) : EReal) (Ideal.liftRound Int.floor (x * ((16 : ℝ) : EReal))))
      = (((lo + (cell lo n x : ℕ) : ℤ) : ℝ) : EReal) := by
  unfold cell
  induction x using EReal.rec with
  | bot =>
    rw [EReal.bot_mul_coe_of_pos (by norm_num), edges_bot]
    show min _ (max _ (⊥ : EReal)) = _
    rw [max_eq_left bot_le, min_eq_right]
    · simp
    · exact EReal.coe_le_coe_iff.mpr (Int.cast_le.mpr (by omega))
  | top =>
    rw [EReal.top_mul_coe_of_pos (by norm_num), edges_top]
    show min _ (max _ (⊤ : EReal)) = _
    rw [max_eq_right le_top, min_eq_left le_top]
    congr 2; omega
  | coe r =>
    rw [← EReal.coe_mul, edges_coe]
    show min _ (max _ (((⌊r * 16⌋ : ℤ) : ℝ) : EReal)) = _
    rw [← EReal.coe_strictMono.monotone.map_max, ← EReal.coe_strictMono.monotone.map_min, ← Int.cast_max, ← Int.cast_min]
    congr 2; omega

/-! ## The words -/

/-- An integer in the range of a 32-bit word, converted from a float, is that word. -/
theorem fptosi_int (z : ℤ) (h0 : -2147483648 ≤ z) (h1 : z < 2147483648) :
    Ideal.fptosi 32 ((z : ℝ) : EReal) = BitVec.ofInt 32 z := by
  unfold Ideal.fptosi
  rw [Ideal.toIntClamped_coe, Int.floor_intCast, Int.ceil_intCast, ite_self]
  congr 1
  norm_num
  omega

/-- The kernel's word: thirty-two times the first coordinate's cell plus the second's less sixteen, converted, plus sixteen. -/
theorem kernel_word (a b : ℕ) (ha : a < 128) (hb : b < 32) :
    IntOp.addi (Ideal.fptosi 32 ((((0 + (a : ℕ) : ℤ) : ℝ) : EReal) * ((32 : ℝ) : EReal) + (((-16 + (b : ℕ) : ℤ) : ℝ) : EReal) * ((1 : ℝ) : EReal))) 16#32
      = BitVec.ofNat 32 (a * 32 + b) := by
  rw [← EReal.coe_mul, ← EReal.coe_mul, ← EReal.coe_add,
    show (((0 + (a : ℕ) : ℤ) : ℝ) * 32 + ((-16 + (b : ℕ) : ℤ) : ℝ) * 1) = (((a * 32 + b - 16 : ℤ)) : ℝ) by push_cast; ring,
    fptosi_int _ (by omega) (by omega)]
  show BitVec.ofInt 32 _ + BitVec.ofInt 32 16 = _
  rw [← BitVec.ofInt_add, sub_add_cancel]
  exact_mod_cast BitVec.ofInt_natCast 32 (a * 32 + b)

/-- The reference's first cell word: one less than the count, clipped to `0 … 127`. -/
theorem clip_word_128 (k : ℕ) (h : k ≤ 128) :
    IntOp.minsi 127#32 (IntOp.maxsi 0#32 (IntOp.subi (BitVec.ofNat 32 k) 1#32)) = BitVec.ofNat 32 (k - 1) := by
  have key : ∀ k < 129, IntOp.minsi 127#32 (IntOp.maxsi 0#32 (IntOp.subi (BitVec.ofNat 32 k) 1#32)) = BitVec.ofNat 32 (k - 1) := by
    decide
  exact key k (by omega)

/-- The reference's second cell word: one less than the count, clipped to `0 … 31`. -/
theorem clip_word_32 (k : ℕ) (h : k ≤ 32) :
    IntOp.minsi 31#32 (IntOp.maxsi 0#32 (IntOp.subi (BitVec.ofNat 32 k) 1#32)) = BitVec.ofNat 32 (k - 1) := by
  have key : ∀ k < 33, IntOp.minsi 31#32 (IntOp.maxsi 0#32 (IntOp.subi (BitVec.ofNat 32 k) 1#32)) = BitVec.ofNat 32 (k - 1) := by
    decide
  exact key k (by omega)

/-- The reference's word: the first cell times thirty-two plus the second. -/
theorem ref_word (a b : ℕ) :
    IntOp.addi (IntOp.muli (BitVec.ofNat 32 a) 32#32) (BitVec.ofNat 32 b) = BitVec.ofNat 32 (a * 32 + b) := by
  show BitVec.ofNat 32 a * BitVec.ofNat 32 32 + _ = _
  rw [← BitVec.ofNat_mul, ← BitVec.ofNat_add]

/-- Summing the one-bit answers of `n` comparisons of edges with `x` counts the edges not above `x`. -/
theorem fold_edges (lo : ℤ) (n : ℕ) (x : EReal) (p : Fin n → BitVec 1)
    (hp : ∀ k : Fin n, p k = Ideal.cmp .ole ((((lo + (k : ℕ) : ℤ) : ℝ) / 16 : ℝ) : EReal) x) :
    (Finset.univ : Finset (Fin n)).fold IntOp.addi 0#32 (fun k => (p k).setWidth 32) = BitVec.ofNat 32 (edges lo n x) := by
  rw [IndicatorCount.fold_addi_setWidth_eq_card]
  unfold edges
  congr 2
  refine Finset.filter_congr fun k _ => ?_
  rw [hp k]
  show BitVec.ofBool (decide _) = 1#1 ↔ _
  by_cases h : (((((lo + (k : ℕ) : ℤ) : ℝ) / 16 : ℝ) : EReal) ≤ x)
  · rw [decide_eq_true h]; exact iff_of_true rfl h
  · rw [decide_eq_false h]; exact iff_of_false (by decide) h

/-! ## The float constants -/

/-- This word is the single-precision float 16. -/
theorem bits_16 : Ideal.ofBits .f32 0x41800000#32 = ((16 : ℝ) : EReal) := by
  simp [Ideal.ofBits, Ideal.ieee, -EReal.coe_mul]; norm_num
/-- This word is the single-precision float -16. -/
theorem bits_neg16 : Ideal.ofBits .f32 0xC1800000#32 = (((-16 : ℤ) : ℝ) : EReal) := by
  simp [Ideal.ofBits, Ideal.ieee, -EReal.coe_mul]; norm_num
/-- This word is the single-precision float 127. -/
theorem bits_127 : Ideal.ofBits .f32 0x42FE0000#32 = ((127 : ℝ) : EReal) := by
  simp [Ideal.ofBits, Ideal.ieee, -EReal.coe_mul]; norm_num
/-- This word is the single-precision float 15. -/
theorem bits_15 : Ideal.ofBits .f32 0x41700000#32 = ((15 : ℝ) : EReal) := by
  simp [Ideal.ofBits, Ideal.ieee, -EReal.coe_mul]; norm_num
/-- This word is the single-precision float 32. -/
theorem bits_32 : Ideal.ofBits .f32 0x42000000#32 = ((32 : ℝ) : EReal) := by
  simp [Ideal.ofBits, Ideal.ieee, -EReal.coe_mul]; norm_num
/-- This word is the single-precision float 1. -/
theorem bits_1 : Ideal.ofBits .f32 0x3F800000#32 = ((1 : ℝ) : EReal) := by
  simp [Ideal.ofBits, Ideal.ieee, -EReal.coe_mul]; norm_num
/-- This word is the single-precision float -1. -/
theorem bits_neg1 : Ideal.ofBits .f32 0xBF800000#32 = ((-1 : ℝ) : EReal) := by
  simp [Ideal.ofBits, Ideal.ieee, -EReal.coe_mul]; norm_num
/-- This word is the single-precision float 1/16. -/
theorem bits_sixteenth : Ideal.ofBits .f32 0x3D800000#32 = ((1 / 16 : ℝ) : EReal) := by
  simp [Ideal.ofBits, Ideal.ieee, -EReal.coe_mul]; norm_num

/-- The first coordinate's clipped rounding, with the constants as the kernel spells them. -/
theorem clip_even (x : EReal) :
    min (Ideal.ofBits .f32 0x42FE0000#32) (max (Ideal.ofBits .f32 0x00000000#32) (Ideal.liftRound Int.floor (x * Ideal.ofBits .f32 0x41800000#32)))
      = (((0 + (cell 0 128 x : ℕ) : ℤ) : ℝ) : EReal) := by
  rw [← clip_floor_eq 0 128 (by norm_num), bits_127, Ideal.ofBits_zero_f32, bits_16]
  norm_num

/-- The second coordinate's clipped rounding, with the constants as the kernel spells them. -/
theorem clip_odd (x : EReal) :
    min (Ideal.ofBits .f32 0x41700000#32) (max (Ideal.ofBits .f32 0xC1800000#32) (Ideal.liftRound Int.floor (x * Ideal.ofBits .f32 0x41800000#32)))
      = (((-16 + (cell (-16) 32 x : ℕ) : ℤ) : ℝ) : EReal) := by
  rw [← clip_floor_eq (-16) 32 (by norm_num), bits_15, bits_neg16, bits_16]
  norm_num

/-- A small index, converted to a float, is itself. -/
theorem sitofp_nat (k : ℕ) (h : k < 128) : FloatOps.sitofp (F := Ideal) .f32 (BitVec.ofNat 32 k) = (((k : ℤ) : ℝ) : EReal) := by
  show (((BitVec.ofNat 32 k).toInt : ℝ) : EReal) = _
  rw [show (BitVec.ofNat 32 k).toInt = (k : ℤ) by
    rw [BitVec.toInt_eq_toNat_of_lt (by simp only [BitVec.toNat_ofNat]; omega), BitVec.toNat_ofNat, Nat.mod_eq_of_lt (by omega)]]

/-- The first coordinate's edges, as the reference computes them. -/
theorem edge_x (k : ℕ) (h : k < 128) :
    Ideal.ofBits .f32 0x3D800000#32 * FloatOps.sitofp (F := Ideal) .f32 (BitVec.ofNat 32 k) = ((((0 + (k : ℕ) : ℤ) : ℝ) / 16 : ℝ) : EReal) := by
  rw [sitofp_nat k h, bits_sixteenth, ← EReal.coe_mul]
  congr 1; push_cast; ring

/-- The second coordinate's edges, as the reference computes them. -/
theorem edge_y (k : ℕ) (h : k < 128) :
    Ideal.ofBits .f32 0xBF800000#32 + Ideal.ofBits .f32 0x3D800000#32 * FloatOps.sitofp (F := Ideal) .f32 (BitVec.ofNat 32 k)
      = ((((-16 + (k : ℕ) : ℤ) : ℝ) / 16 : ℝ) : EReal) := by
  rw [sitofp_nat k h, bits_neg1, bits_sixteenth, ← EReal.coe_mul, ← EReal.coe_add]
  congr 1; push_cast; ring

/-! ## What both programs compute -/

/-- The word of the pose at `(i, j)`: the cell of its first coordinate times thirty-two plus the cell of its second. -/
def poseWord (x : FVec Ideal ⟨3, ![16384, 200, 2]⟩ .f32) (i : Fin 16384) (j : Fin 200) : BitVec 32 :=
  BitVec.ofNat 32 (cell 0 128 (x (ix3 i j (0 : Fin 2))) * 32 + cell (-16) 32 (x (ix3 i j (1 : Fin 2))))

/-- The array of words: at `(i, j, 0)` the word of the pose at `(i, j)`. -/
def result (x : FVec Ideal ⟨3, ![16384, 200, 2]⟩ .f32) : IVec ⟨3, ![16384, 200, 1]⟩ 32 :=
  fun i => poseWord x (i 0) (i 1)

end Cert.Cells

end
-- ==== Proof.Block.lean ====
/-
  One block of the kernel, read at an index: the body's stored value at row `r`, column `c` is the word of the two
  cells of the block's lanes `2c` and `2c + 1` of that row.
-/
module

public import proofs.«01_k».proof.Proof.Cells
public import proofs.«01_k».proof.Proof.Gen.KernelIdeal.Skeleton
public import Idealize.ShloMosaic.Lib.Pointwise

@[expose] public section

noncomputable section

namespace Cert.KernelIdeal.Block

open Idealize.ShloMosaic Cert.KernelIdeal Cert.KernelIdeal.Gen Cert.Cells

/-- The kernel's test of a lane's parity: the remainder by two, made non-negative, is zero exactly at even lanes. -/
theorem parity (k : ℕ) (hk : k < 512) (r : BitVec 32) (hr : r = IntOp.remsi .vector (BitVec.ofNat 32 k) 2#32) :
    IntOp.cmpi .eq (Scalar.select (IntOp.andi (IntOp.xori (IntOp.cmpi .slt r 0#32) (IntOp.cmpi .slt 2#32 0#32)) (IntOp.cmpi .ne r 0#32)) (IntOp.addi r 2#32) r) 0#32
      = if k % 2 = 0 then 1#1 else 0#1 := by
  subst hr
  revert k
  decide +kernel

/-- The kernel's test of a weight row against twice its column, decided. -/
theorem cmpi_even (x c : ℕ) (hx : x < 512) (hc : c < 256) :
    IntOp.cmpi .eq (BitVec.ofNat 32 x) (IntOp.muli 2#32 (BitVec.ofNat 32 c)) = if x = 2 * c then 1#1 else 0#1 := by
  show BitVec.ofBool (BitVec.ofNat 32 x == BitVec.ofNat 32 2 * BitVec.ofNat 32 c) = _
  rw [← BitVec.ofNat_mul]
  by_cases h : x = 2 * c
  · simp [h]
  · rw [if_neg h, beq_eq_false_iff_ne.mpr]
    · rfl
    · intro e
      have := congrArg BitVec.toNat e
      simp only [BitVec.toNat_ofNat] at this
      omega

/-- The kernel's test of a weight row against twice its column plus one, decided. -/
theorem cmpi_odd (x c : ℕ) (hx : x < 512) (hc : c < 256) :
    IntOp.cmpi .eq (BitVec.ofNat 32 x) (IntOp.addi (IntOp.muli 2#32 (BitVec.ofNat 32 c)) 1#32) = if x = 2 * c + 1 then 1#1 else 0#1 := by
  show BitVec.ofBool (BitVec.ofNat 32 x == BitVec.ofNat 32 2 * BitVec.ofNat 32 c + BitVec.ofNat 32 1) = _
  rw [← BitVec.ofNat_mul, ← BitVec.ofNat_add]
  by_cases h : x = 2 * c + 1
  · simp [h]
  · rw [if_neg h, beq_eq_false_iff_ne.mpr]
    · rfl
    · intro e
      have := congrArg BitVec.toNat e
      simp only [BitVec.toNat_ofNat] at this
      omega

/-- The weight at row `x`, column `c`: thirty-two at row `2c`, one at row `2c + 1`, zero elsewhere. -/
theorem weight (x c : ℕ) (hx : x < 512) (hc : c < 256) :
    (Scalar.select (IntOp.cmpi .eq (BitVec.ofNat 32 x) (IntOp.muli 2#32 (BitVec.ofNat 32 c))) (Ideal.ofBits .f32 0x42000000#32) 0
        + Scalar.select (IntOp.cmpi .eq (BitVec.ofNat 32 x) (IntOp.addi (IntOp.muli 2#32 (BitVec.ofNat 32 c)) 1#32)) 1 0 : EReal)
      = if x = 2 * c then ((32 : ℝ) : EReal) else if x = 2 * c + 1 then ((1 : ℝ) : EReal) else 0 := by
  rw [cmpi_even x c hx hc, cmpi_odd x c hx hc, bits_32]
  by_cases h : x = 2 * c
  · rw [if_pos h, if_pos h, if_neg (by omega)]
    exact add_zero _
  · rw [if_neg h, if_neg h]
    by_cases h' : x = 2 * c + 1
    · rw [if_pos h', if_pos h']
      exact zero_add _
    · rw [if_neg h', if_neg h']
      exact add_zero _

/-- The clipped rounding of a block, at an index: at an even lane the cell of the first grid, at an odd lane sixteen
    below the cell of the second. -/
theorem pay2_apply (v : FVec Ideal S800x512 .f32) (r : Fin 800) (k : Fin 512) :
    k0_pay2 (F := Ideal) v (ix2 r k) = if (k : ℕ) % 2 = 0 then (((0 + (cell 0 128 (v (ix2 r k)) : ℕ) : ℤ) : ℝ) : EReal)
      else (((-16 + (cell (-16) 32 (v (ix2 r k)) : ℕ) : ℤ) : ℝ) : EReal) := by
  rw [← clip_even, ← clip_odd]
  pointwise [k0_pay2]
  rw [show Scalar.select (Scalar.cmpi CmpIPredicate.eq 2#32 0#32) 1#32 2#32 = 2#32 from rfl]
  rw [show Scalar.cmpi CmpIPredicate.slt 2#32 0#32 = IntOp.cmpi CmpIPredicate.slt 2#32 0#32 from rfl, parity k k.isLt _ rfl]
  by_cases h : (k : ℕ) % 2 = 0
  · rw [if_pos h, if_pos h]; rfl
  · rw [if_neg h, if_neg h]; rfl

/-- The product with the weights: thirty-two times lane `2c` plus lane `2c + 1`, converted to an integer, plus sixteen. -/
theorem pay1_apply (v : FVec Ideal S800x512 .f32) (r : Fin 800) (c : Fin 256) :
    k0_pay1 v (iota .tc S512x256 32 [0] iota_S512x256_d0_w32) (iota .tc S512x256 32 [1] iota_S512x256_d1_w32) (k0_pay3 (F := Ideal)) k0_pay4 (ix2 r c)
      = IntOp.addi (Ideal.fptosi 32 (v (ix2 r ⟨2 * c, by omega⟩) * ((32 : ℝ) : EReal) + v (ix2 r ⟨2 * c + 1, by omega⟩) * ((1 : ℝ) : EReal))) 16#32 := by
  pointwise [k0_pay1, k0_pay3, k0_pay4]
  have hs : ∀ x : Fin 512, _ := fun x => weight x c x.isLt c.isLt
  simp only [hs]
  rw [Finset.sum_eq_add (⟨2 * c, by omega⟩ : Fin 512) ⟨2 * c + 1, by omega⟩ (by simp)]
  · simp
    rfl
  · intro x _ hx
    rw [if_neg fun e => hx.1 (Fin.ext e), if_neg fun e => hx.2 (Fin.ext e), mul_zero]
  · intro h; exact absurd (Finset.mem_univ _) h
  · intro h; exact absurd (Finset.mem_univ _) h

/-- What the body stores from a block: the word of the cells of the row's lanes `2c` and `2c + 1`. -/
theorem block_apply (v : FVec Ideal S800x512 .f32) (r : Fin 800) (c : Fin 256) :
    k0_pay1 (k0_pay2 v) (iota .tc S512x256 32 [0] iota_S512x256_d0_w32) (iota .tc S512x256 32 [1] iota_S512x256_d1_w32) (k0_pay3 (F := Ideal)) k0_pay4 (ix2 r c)
      = BitVec.ofNat 32 (cell 0 128 (v (ix2 r ⟨2 * c, by omega⟩)) * 32 + cell (-16) 32 (v (ix2 r ⟨2 * c + 1, by omega⟩))) := by
  rw [pay1_apply, pay2_apply, pay2_apply, if_pos (by simp), if_neg (by simp)]
  exact kernel_word _ _ (cell_lt _ _ _ (by norm_num)) (cell_lt _ _ _ (by norm_num))

end Cert.KernelIdeal.Block

end
-- ==== Proof.Array.lean ====
/-
  The kernel's result array. Each of the sixteen grid points writes one block of 800 rows; the blocks tile the
  (12800, 256) array, which therefore ends as one function of the flattened argument. The host's reshape before the
  blocks and the one after them are row-major re-indexings.
-/
module

public import proofs.«01_k».proof.Proof.Block
public import proofs.«01_k».proof.Proof.Gen.KernelIdeal.Frame
public import proofs.«01_k».proof.Proof.Gen.KernelIdeal.Points
public import Idealize.ShloMosaic.Lib.Pipeline.Value

@[expose] public section

noncomputable section

namespace Cert.KernelIdeal.Array

open Idealize.ShloMosaic Idealize.ShloMosaic.TcCoe Idealize.SL.Sem Cert.KernelIdeal Cert.KernelIdeal.Gen Cert.Cells
open Idealize.ShloMosaic.Pipeline (Dat)

variable (m : (ℓ : Loc nD τ sig) → Buf (Elt Ideal) ℓ) (ρ : Dev nD → PrngReg)

/-- The word of the pair of lanes `2c`, `2c + 1` of row `r` of a (12800, 512) array. -/
def pairWord (x : FVec Ideal S12800x512 .f32) (r : Fin 12800) (c : Fin 256) : BitVec 32 :=
  BitVec.ofNat 32 (cell 0 128 (x (ix2 r ⟨2 * c, by omega⟩)) * 32 + cell (-16) 32 (x (ix2 r ⟨2 * c + 1, by omega⟩)))

/-- What the (12800, 256) array of results is shown to hold. -/
def pairs (c : Dev nD) : Buf (Elt Ideal) ((c : Thread nD τ).loc main_v1) :=
  fun i : S12800x256.Idx => pairWord (V m c main_v0) (i 0) (i 1)

/-- The offsets of a whole block are zero. -/
theorem hz : (![0, 0] : Fin 2 → Nat) = fun _ => 0 := funext fun a => by fin_cases a <;> rfl

/-- Where the blocks of the two windows lie: at point `t` both start at row `800 t` and column 0. -/
theorem offs (t : Fin cfg0.N) :
    win0_0.index t 0 = t.val ∧ win0_0.index t 1 = 0 ∧ win0_1.index t 0 = t.val ∧ win0_1.index t 1 = 0 := by
  revert t
  decide +kernel

/-- Block `t` of the flattened argument, at an index: row `r` of the block is row `800 t + r` of the array. -/
theorem iblk_apply (c : Dev nD) (t : Fin cfg0.N) (r : Fin 800) (q : Fin 512) (h : t.val * 800 + r < 12800) :
    iblk m c 0 t (ix2 r q) = V m c main_v0 (ix2 (⟨t.val * 800 + r, h⟩ : Fin 12800) q) := by
  show V m c main_v0 ((win0_0.rect t).emb (ix2 r q)) = _
  refine congrArg (V m c main_v0) (Shape.idx_ext₂ ?_ ?_)
  · refine (Pipeline.Window.rect_emb_val win0_0 t (ix2 r q) 0).trans ?_
    rw [(offs t).1]; rfl
  · refine (Pipeline.Window.rect_emb_val win0_0 t (ix2 r q) 1).trans ?_
    rw [(offs t).2.1]; exact (Nat.zero_mul _).symm ▸ Nat.zero_add _

/-- Where block `t` of the results lies in their array. -/
theorem emb1_eq (t : Fin cfg0.N) (r : Fin 800) (k : Fin 256) (h : t.val * 800 + r < 12800) :
    (win0_1.rect t).emb (ix2 r k) = ix2 (⟨t.val * 800 + r, h⟩ : Fin 12800) k := by
  refine Shape.idx_ext₂ ?_ ?_
  · refine (Pipeline.Window.rect_emb_val win0_1 t (ix2 r k) 0).trans ?_
    rw [(offs t).2.2.1]; rfl
  · refine (Pipeline.Window.rect_emb_val win0_1 t (ix2 r k) 1).trans ?_
    rw [(offs t).2.2.2]; exact (Nat.zero_mul _).symm ▸ Nat.zero_add _

/-- What point `t` writes back is its block of `pairs`. -/
theorem flushed_eq (c : Dev nD) (t : Fin cfg0.N) :
    (dats m 0 c).flushed 1 t = (win0_1.blk t).view.read (Elt Ideal) (pairs m c) := by
  show (cfg0.win 1).cut (grid0.coords t) ((dats m 0 c).after 1 t) = _
  rw [after0_1]
  unfold out0_1
  rw [View.canon_unit_zero hz, View.ld_unit_zero hz]
  funext y
  obtain ⟨r, k, rfl⟩ : ∃ (r : Fin 800) (k : Fin 256), y = ix2 r k := ⟨y 0, y 1, Shape.idx_ext₂ rfl rfl⟩
  refine (Block.block_apply _ r k).trans ?_
  have ht : t.val < 16 := t.isLt.trans_eq N_0
  have h : t.val * 800 + r < 12800 := by omega
  rw [iblk_apply m c t r _ h, iblk_apply m c t r _ h]
  show _ = pairs m c ((win0_1.rect t).emb (ix2 r k))
  rw [emb1_eq t r k h]
  rfl

/-- An index of the results is in point `t`'s block when its row is one of the block's 800. -/
theorem mem_blk (t : Fin cfg0.N) (i : S12800x256.Idx) :
    i ∈ ((cfg0.win 1).blk t).view.set ↔ t.val * 800 ≤ (i 0 : Nat) ∧ (i 0 : Nat) < t.val * 800 + 800 := by
  show i ∈ ((View.whole main_v1).slice (win0_1.rect t)).set ↔ _
  rw [View.set_slice_whole, Rect.mem_set_unit]
  have h1 : (i 1 : Nat) < 256 := (i 1).isLt
  have e := offs t
  refine ⟨fun h => ?_, fun h a => ?_⟩
  · have : win0_1.index t 0 * 800 ≤ (i 0 : Nat) ∧ (i 0 : Nat) < win0_1.index t 0 * 800 + 800 := h 0
    rw [e.2.2.1] at this; exact this
  · match a with
    | ⟨0, _⟩ => show win0_1.index t 0 * 800 ≤ (i 0 : Nat) ∧ (i 0 : Nat) < win0_1.index t 0 * 800 + 800
                rw [e.2.2.1]; exact h
    | ⟨1, _⟩ => show win0_1.index t 1 * 256 ≤ (i 1 : Nat) ∧ (i 1 : Nat) < win0_1.index t 1 * 256 + 256
                rw [e.2.2.2]; omega

/-- The sixteen blocks tile the array. -/
theorem cover (i : S12800x256.Idx) :
    ∃ t : Fin cfg0.N, (cfg0.win 1).flush t = true ∧ i ∈ ((cfg0.win 1).blk t).view.set := by
  have h0 : (i 0 : Nat) < 12800 := (i 0).isLt
  have hN : cfg0.N = 16 := N_0
  refine ⟨⟨(i 0 : Nat) / 800, by omega⟩, flush0_1 _, ?_⟩
  rw [mem_blk]
  dsimp only
  omega

/-- So the array of results ends holding `pairs`. -/
theorem final (c : Dev nD) : (dats m 0 c).arrAt 1 cfg0.N = pairs m c :=
  (dats m 0 c).arrAt_eq_of_cover 1 (pairs m c) (fun t _ => flushed_eq m c t) cover

/-! ## The two reshapes -/

/-- The region finds the argument flattened. -/
theorem V_main_v0 (c : Dev nD) :
    V m c main_v0 = shapeCast S12800x512 (m ((c : Thread nD τ).loc main_arg0) : FVec Ideal S16384x200x2 .f32) shapeCasts_S16384x200x2_S12800x512 := by
  simp only [V, V0, hostOps0, List.flatten_cons, List.flatten_nil, List.append_nil]
  after_results
  rfl

/-- The flattened argument at the element of row-major position `512 r + q`. -/
theorem flat_apply (x : FVec Ideal S16384x200x2 .f32) (r : Fin 12800) (q : Fin 512) (i : Fin 16384) (j : Fin 200) (k : Fin 2)
    (h : (i : ℕ) * 400 + j * 2 + k = r * 512 + q) :
    shapeCast S12800x512 x shapeCasts_S16384x200x2_S12800x512 (ix2 r q) = x (ix3 i j k) := by
  refine shapeCast_apply x _ (ix2 r q) (ix3 i j k) ?_
  rw [Shape.rowMajor_val_three, Shape.rowMajor_val_two]
  show ((i : ℕ) * 200 + j) * 2 + k = r * 512 + q
  omega

/-- A pair of lanes of the flattened poses is the pose whose row-major position is the pair's. -/
theorem pairWord_flat (x : FVec Ideal S16384x200x2 .f32) (r : Fin 12800) (c : Fin 256) (i : Fin 16384) (j : Fin 200)
    (h : (r : ℕ) * 256 + c = i * 200 + j) :
    pairWord (shapeCast S12800x512 x shapeCasts_S16384x200x2_S12800x512) r c = poseWord x i j := by
  unfold pairWord poseWord
  rw [flat_apply x r ⟨2 * c, _⟩ i j 0 (by show (i : ℕ) * 400 + j * 2 + 0 = r * 512 + 2 * c; omega),
    flat_apply x r ⟨2 * c + 1, _⟩ i j 1 (by show (i : ℕ) * 400 + j * 2 + 1 = r * 512 + (2 * c + 1); omega)]

/-- The results, reshaped, are `result` of the argument. -/
theorem reshape_pairs (c : Dev nD) :
    shapeCast S16384x200x1 (pairs m c : IVec S12800x256 32) shapeCasts_S12800x256_S16384x200x1 = result (m ((c : Thread nD τ).loc main_arg0)) := by
  funext y
  have h0 : (y 0 : Nat) < 16384 := (y 0).isLt
  have h1 : (y 1 : Nat) < 200 := (y 1).isLt
  have h2 : (y 2 : Nat) < 1 := (y 2).isLt
  refine (shapeCast_apply _ _ y (ix2 (⟨((y 0 : Nat) * 200 + y 1) / 256, by omega⟩ : Fin 12800) (⟨((y 0 : Nat) * 200 + y 1) % 256, by omega⟩ : Fin 256)) ?_).trans ?_
  · rw [Shape.rowMajor_val_three, Shape.rowMajor_val_two]
    show ((y 0 : Nat) * 200 + y 1) / 256 * 256 + ((y 0 : Nat) * 200 + y 1) % 256 = ((y 0 : Nat) * 200 + y 1) * 1 + y 2
    omega
  · refine (congrArg (fun x => pairWord x _ _) (V_main_v0 m c)).trans ?_
    refine pairWord_flat _ _ _ (y 0) (y 1) ?_
    show ((y 0 : Nat) * 200 + y 1) / 256 * 256 + ((y 0 : Nat) * 200 + y 1) % 256 = (y 0 : Nat) * 200 + y 1
    omega

/-- What the host leaves in the result buffer after the blocks. -/
theorem W_main_v2 (c : Dev nD) :
    Pipeline.afterTail₀ cfgs (dats m) 0 (V0 m) [hostOps1] c main_v2 = result (m ((c : Thread nD τ).loc main_arg0)) := by
  rw [← reshape_pairs, ← final]
  unfold Pipeline.afterTail₀
  simp only [hostOps1, List.flatten_cons, List.flatten_nil, List.append_nil]
  after_results
  exact congrArg (fun z : IVec S12800x256 32 => shapeCast S16384x200x1 z shapeCasts_S12800x256_S16384x200x1)
    (Pipeline.withArrays_arr spec0 (by decide) c (V0 m c) (fun w => (dats m 0 c).arrAt w cfg0.N) 1)

/-- The run, read: the result array at `result` of the argument, the argument unchanged. -/
theorem run : θ_run defs (onTc (τ := τ) (main (F := Ideal))) ⟨m, fun _ => 0, ρ⟩ fun r => ∀ c : Dev nD,
      r.2.mem ((c : Thread nD τ).loc main_v2) = result (m ((c : Thread nD τ).loc main_arg0))
      ∧ r.2.mem ((c : Thread nD τ).loc main_arg0) = m ((c : Thread nD τ).loc main_arg0) :=
  (θ_run defs _ _).mono (fun _ h c =>
      ⟨((h c).2 main_v2 (Pipeline.mem_restRefs_of main_v2 (by decide) (by decide))).trans (W_main_v2 m c),
       ((h c).2 main_arg0 (Pipeline.mem_restRefs_of main_arg0 (by decide) (by decide))).trans (W_main_arg0 m (dats m) c)⟩)
    (run_main m ρ)

end Cert.KernelIdeal.Array

end
-- ==== Proof.Ref.lean ====
/-
  The reference, read at an index: the two counts of edges, each less one and clipped, make the word of the pose.
-/
module

public import proofs.«01_k».proof.Proof.Cells
public import proofs.«01_k».proof.Proof.Gen.ReferenceIdeal.Read
public import Idealize.ShloMosaic.Lib.Pointwise

@[expose] public section

noncomputable section

namespace Cert.ReferenceIdeal.Count

open Idealize.ShloMosaic Idealize.ShloMosaic.TcCoe Idealize.SL.Sem Cert.ReferenceIdeal Cert.ReferenceIdeal.Gen Cert.ReferenceIdeal.Read Cert.Cells

/-- The first count at a pose: the edges of the first grid not above its first coordinate. -/
theorem count_x (x : FVec Ideal S16384x200x2 .f32) (i : Fin 16384) (j : Fin 200) :
    val_main_v20 (F := Ideal) x (ix2 i j) = BitVec.ofNat 32 (edges 0 128 (x (ix3 i j (0 : Fin 2)))) := by
  pointwise [val_main_v20, val_main_v19, val_main_v18, val_main_v17, val_main_v16, val_main_v15, val_main_v14, val_main_v11, val_main_v10, val_main_v4, val_main_v3, val_main_v2, val_main_v1, val_main_v0, val_main_cst, val_main_cst_0, val_main_c]
  refine fold_edges 0 128 _ _ fun k => ?_
  rw [← edge_x k k.isLt]
  rfl

/-- The second count at a pose: the edges of the second grid not above its second coordinate. -/
theorem count_y (x : FVec Ideal S16384x200x2 .f32) (i : Fin 16384) (j : Fin 200) :
    val_main_v27 (F := Ideal) x (ix2 i j) = BitVec.ofNat 32 (edges (-16) 32 (x (ix3 i j (1 : Fin 2)))) := by
  pointwise [val_main_v27, val_main_v26, val_main_v25, val_main_v24, val_main_v23, val_main_v22, val_main_v21, val_main_v13, val_main_v12, val_main_v9, val_main_v8, val_main_v7, val_main_v6, val_main_v5, val_main_cst_1, val_main_cst_2, val_main_c_3]
  refine fold_edges (-16) 32 _ _ fun k => ?_
  rw [← edge_y k (by omega)]
  rfl

/-- The reference's result at a pose is the pose's word. -/
theorem ref_apply (x : FVec Ideal S16384x200x2 .f32) (i : Fin 16384) (j : Fin 200) (k : Fin 1) :
    val_main_v37 (F := Ideal) x (ix3 i j k) = poseWord x i j := by
  pointwise [val_main_v37, val_main_v36, val_main_v35, val_main_v34, val_main_v33, val_main_v32, val_main_v31, val_main_v30, val_main_v29, val_main_v28, val_main_call0_v4, val_main_call0_v3, val_main_call0_v2, val_main_call0_v1, val_main_call0_v0, val_main_call1_v4, val_main_call1_v3, val_main_call1_v2, val_main_call1_v1, val_main_call1_v0, val_main_c_4, val_main_c_5, val_main_c_6, val_main_c_7, val_main_c_8, val_main_c_9, val_main_c_10]
  rw [count_x, count_y]
  exact (congrArg₂ IntOp.addi (congrArg (IntOp.muli · 32#32) (clip_word_128 _ (edges_le 0 128 _))) (clip_word_32 _ (edges_le (-16) 32 _))).trans
    (ref_word _ _)

/-- The reference's result is the array of words. -/
theorem ref_eq (x : FVec Ideal S16384x200x2 .f32) : val_main_v37 (F := Ideal) x = result x := by
  funext y
  exact (congrArg (val_main_v37 (F := Ideal) x) (eq_ix3 y)).trans (ref_apply x (y 0) (y 1) (y 2))

/-- The run, read: the result array at the array of words, the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v37) = result (m ((c : Thread nD τ).loc main_arg0))
      ∧ r.2.mem ((c : Thread nD τ).loc main_arg0) = m ((c : Thread nD τ).loc main_arg0) :=
  (θ_run defs _ _).mono (fun _ h c => ⟨(h c).1.trans ((val_main_v37_eq _).trans (ref_eq _)), (h c).2⟩)
    (Cert.ReferenceIdeal.Value.run (F := Ideal) m ρ)

end Cert.ReferenceIdeal.Count

end
-- ==== Proof.lean ====
/-
  The claims, assembled. The frames of the kernel, as printed and read over the extended reals, and of the reference
  are their generated runs; no operation was rewritten in between; and over the extended reals the kernel and the
  reference both end with the array of words of the poses (`Cert.Cells.result`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Array
public import proofs.«01_k».proof.Proof.Ref
public import Idealize.ShloMosaic.Lib.Quiescent

@[expose] public section

noncomputable section

namespace Cert.Proof

open Idealize.ShloMosaic Idealize.SL.Sem

/-- The reference runs, leaves its argument as it was, and has no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel and the reference, from the same poses, end with the same array of words. -/
theorem algebraic : Cert.algebraic_KernelIdeal_ReferenceIdeal := by
  intro m ρ m' ρ' _ hagree
  refine ⟨fun c => Cert.Cells.result (m ((c.tc : Thread Cert.KernelIdeal.nD Cert.KernelIdeal.τ).loc Cert.KernelIdeal.main_arg0)), ?_, ?_⟩
  · exact Cert.KernelIdeal.Array.run m ρ
  · exact (θ_run Cert.ReferenceIdeal.defs _ _).mono
      (fun _ h c => ⟨(h c).1.trans (congrArg Cert.Cells.result (hagree c)), (h c).2⟩)
      (Cert.ReferenceIdeal.Count.run m' ρ')

/-- Every claim. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
